-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x7168 : Shape := ⟨3, ![16, 128, 7168]⟩
abbrev S16x128 : Shape := ⟨2, ![16, 128]⟩
abbrev S7168x256 : Shape := ⟨2, ![7168, 256]⟩
abbrev S16x128x8 : Shape := ⟨3, ![16, 128, 8]⟩
abbrev S2048x7168 : Shape := ⟨2, ![2048, 7168]⟩
abbrev S16x1x128 : Shape := ⟨3, ![16, 1, 128]⟩
abbrev S16x8x128 : Shape := ⟨3, ![16, 8, 128]⟩
abbrev S2048x256 : Shape := ⟨2, ![2048, 256]⟩
abbrev S256x7168 : Shape := ⟨2, ![256, 7168]⟩
abbrev S2x1x128 : Shape := ⟨3, ![2, 1, 128]⟩
abbrev S2x8x128 : Shape := ⟨3, ![2, 8, 128]⟩
abbrev S256x256 : Shape := ⟨2, ![256, 256]⟩
abbrev S128x256 : Shape := ⟨2, ![128, 256]⟩
abbrev S256x128 : Shape := ⟨2, ![256, 128]⟩
abbrev S1x1x128 : Shape := ⟨3, ![1, 1, 128]⟩
abbrev S1x128 : Shape := ⟨2, ![1, 128]⟩
abbrev S1x8x128 : Shape := ⟨3, ![1, 8, 128]⟩
abbrev S8x128 : Shape := ⟨2, ![8, 128]⟩
abbrev S128 : Shape := ⟨1, ![128]⟩

abbrev nBuf : Space → Nat
  | .hbm => 12
  | .vmem => 14
  | .smem => 0
  | _ => 0

abbrev bufTy : (tb : Table) → Fin (tcTables nBuf tb) → BufTy
  | .hbm, ⟨0, _⟩ => ⟨S16x128x7168, .fp8e4m3⟩
  | .hbm, ⟨1, _⟩ => ⟨S16x128, .f32⟩
  | .hbm, ⟨2, _⟩ => ⟨S7168x256, .bf16⟩
  | .hbm, ⟨3, _⟩ => ⟨S16x128x8, .i32⟩
  | .hbm, ⟨4, _⟩ => ⟨S16x128x8, .bf16⟩
  | .hbm, ⟨5, _⟩ => ⟨S2048x7168, .fp8e4m3⟩
  | .hbm, ⟨6, _⟩ => ⟨S16x1x128, .f32⟩
  | .hbm, ⟨7, _⟩ => ⟨S16x8x128, .i32⟩
  | .hbm, ⟨8, _⟩ => ⟨S16x8x128, .bf16⟩
  | .hbm, ⟨9, _⟩ => ⟨S2048x7168, .bf16⟩
  | .hbm, ⟨10, _⟩ => ⟨S7168x256, .f32⟩
  | .hbm, ⟨11, _⟩ => ⟨S2048x256, .f32⟩
  | .local _ .vmem, ⟨0, _⟩ => ⟨S256x7168, .fp8e4m3⟩
  | .local _ .vmem, ⟨1, _⟩ => ⟨S256x7168, .fp8e4m3⟩
  | .local _ .vmem, ⟨2, _⟩ => ⟨S2x1x128, .f32⟩
  | .local _ .vmem, ⟨3, _⟩ => ⟨S2x1x128, .f32⟩
  | .local _ .vmem, ⟨4, _⟩ => ⟨S7168x256, .bf16⟩
  | .local _ .vmem, ⟨5, _⟩ => ⟨S2x8x128, .i32⟩
  | .local _ .vmem, ⟨6, _⟩ => ⟨S2x8x128, .i32⟩
  | .local _ .vmem, ⟨7, _⟩ => ⟨S2x8x128, .bf16⟩
  | .local _ .vmem, ⟨8, _⟩ => ⟨S2x8x128, .bf16⟩
  | .local _ .vmem, ⟨9, _⟩ => ⟨S256x7168, .bf16⟩
  | .local _ .vmem, ⟨10, _⟩ => ⟨S256x7168, .bf16⟩
  | .local _ .vmem, ⟨11, _⟩ => ⟨S7168x256, .f32⟩
  | .local _ .vmem, ⟨12, _⟩ => ⟨S256x256, .f32⟩
  | .local _ .vmem, ⟨13, _⟩ => ⟨S256x256, .f32⟩
  | _, _ => ⟨S16x128x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7168x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S7168x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x128x7168 : Shape := ⟨3, ![16, 128, 7168]⟩
abbrev S16x128 : Shape := ⟨2, ![16, 128]⟩
abbrev S7168x256 : Shape := ⟨2, ![7168, 256]⟩
abbrev S16x128x8 : Shape := ⟨3, ![16, 128, 8]⟩
abbrev S2048x7168 : Shape := ⟨2, ![2048, 7168]⟩
abbrev S2048x1 : Shape := ⟨2, ![2048, 1]⟩
abbrev S2048x8 : Shape := ⟨2, ![2048, 8]⟩
abbrev S2048x256 : Shape := ⟨2, ![2048, 256]⟩
abbrev S2048x8x1 : Shape := ⟨3, ![2048, 8, 1]⟩
abbrev S1x1x256 : Shape := ⟨3, ![1, 1, 256]⟩
abbrev S2048x8x256 : Shape := ⟨3, ![2048, 8, 256]⟩
abbrev S2048x1x256 : Shape := ⟨3, ![2048, 1, 256]⟩
abbrev S2048 : Shape := ⟨1, ![2048]⟩

abbrev nBuf : Space → Nat
  | .hbm => 12
  | .vmem => 8
  | .smem => 0
  | _ => 0

abbrev bufTy : (tb : Table) → Fin (tcTables nBuf tb) → BufTy
  | .hbm, ⟨0, _⟩ => ⟨S16x128x7168, .fp8e4m3⟩
  | .hbm, ⟨1, _⟩ => ⟨S16x128, .f32⟩
  | .hbm, ⟨2, _⟩ => ⟨S7168x256, .bf16⟩
  | .hbm, ⟨3, _⟩ => ⟨S16x128x8, .i32⟩
  | .hbm, ⟨4, _⟩ => ⟨S16x128x8, .bf16⟩
  | .hbm, ⟨5, _⟩ => ⟨S2048x7168, .fp8e4m3⟩
  | .hbm, ⟨6, _⟩ => ⟨S2048x1, .f32⟩
  | .hbm, ⟨7, _⟩ => ⟨S2048x8, .i32⟩
  | .hbm, ⟨8, _⟩ => ⟨S2048x8, .bf16⟩
  | .hbm, ⟨9, _⟩ => ⟨S2048x7168, .bf16⟩
  | .hbm, ⟨10, _⟩ => ⟨S7168x256, .f32⟩
  | .hbm, ⟨11, _⟩ => ⟨S2048x256, .f32⟩
  | .local _ .vmem, ⟨0, _⟩ => ⟨S2048x7168, .fp8e4m3⟩
  | .local _ .vmem, ⟨1, _⟩ => ⟨S2048x1, .f32⟩
  | .local _ .vmem, ⟨2, _⟩ => ⟨S7168x256, .bf16⟩
  | .local _ .vmem, ⟨3, _⟩ => ⟨S2048x8, .i32⟩
  | .local _ .vmem, ⟨4, _⟩ => ⟨S2048x8, .bf16⟩
  | .local _ .vmem, ⟨5, _⟩ => ⟨S2048x7168, .bf16⟩
  | .local _ .vmem, ⟨6, _⟩ => ⟨S7168x256, .f32⟩
  | .local _ .vmem, ⟨7, _⟩ => ⟨S2048x256, .f32⟩
  | _, _ => ⟨S16x128x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Route.lean ====
/-
  One token of the router's backward pass, over plain functions of the expert and of the slot.

  A token has 256 router logits `L`, eight chosen experts `ids` and eight incoming gate gradients `dg`.  Both programs
  compute from these the gradient of the token's logits.  The kernel writes the gradient of the log-sum-exp term as
  `ex * ((c * lse) / tot)` and then adds the eight slots one after another; the reference sums the slots and adds
  `(c * lse) * exp (L - lse)`, with its log-sum-exp shifted by the row's maximum where that is finite and by zero
  elsewhere.  `kerRow_eq_refRow` states that the two are one number at every expert, for all extended-real logits.
-/
module

public import Idealize.ShloMosaic.Lib.Pointwise

@[expose] public section

set_option maxRecDepth 16384

noncomputable section

namespace Cert.Route

open Idealize Idealize.ShloMosaic
open scoped BigOperators

/-- The largest of finitely many extended reals, `⊥` for none. -/
def peak {n : ℕ} (f : Fin n → EReal) : EReal := Finset.univ.fold max ⊥ f

/-- The bit that says whether the chosen expert `i` is expert `e`. -/
def hit (i : BitVec 32) (e : Fin 256) : BitVec 1 := IntOp.cmpi .eq i (BitVec.ofNat 32 e.val)

/-- The logit of slot `k`'s expert, as the sum over all experts of the logit where the slot names it. -/
def picked (L : Fin 256 → EReal) (ids : Fin 8 → BitVec 32) (k : Fin 8) : EReal :=
  ∑ e : Fin 256, Scalar.select (hit (ids k) e) (L e) 0

/-- The softmax of eight numbers, shifted by their maximum. -/
def gate (p : Fin 8 → EReal) (k : Fin 8) : EReal :=
  Ideal.div (Ideal.exp (p k - peak p)) (∑ j : Fin 8, Ideal.exp (p j - peak p))

/-- The softmax's gradient at slot `k`: `g k * (dg k - ∑ g dg)`. -/
def slotGrad (L : Fin 256 → EReal) (ids : Fin 8 → BitVec 32) (dg : Fin 8 → EReal) (k : Fin 8) : EReal :=
  gate (picked L ids) k * (dg k - ∑ j : Fin 8, gate (picked L ids) j * dg j)

/-- What slot `k` adds to expert `e`'s gradient. -/
def slotAt (L : Fin 256 → EReal) (ids : Fin 8 → BitVec 32) (dg : Fin 8 → EReal) (e : Fin 256) (k : Fin 8) : EReal :=
  Scalar.select (hit (ids k) e) (slotGrad L ids dg k) 0

/-- The kernel's softmax numerators: `exp (L e - max L)`. -/
def ex (L : Fin 256 → EReal) (e : Fin 256) : EReal := Ideal.exp (L e - peak L)

/-- The kernel's softmax denominator. -/
def tot (L : Fin 256 → EReal) : EReal := ∑ e : Fin 256, ex L e

/-- The kernel's gradient of the log-sum-exp term at expert `e`, `c` the coefficient. -/
def kerZ (c : EReal) (L : Fin 256 → EReal) (e : Fin 256) : EReal :=
  ex L e * Ideal.div (c * (peak L + Ideal.log (tot L))) (tot L)

/-- The shift of the reference's log-sum-exp: the maximum where it is finite, else zero. -/
def shift (L : Fin 256 → EReal) : EReal := if peak L = ⊤ ∨ peak L = ⊥ then 0 else peak L

/-- The reference's log-sum-exp. -/
def refLse (L : Fin 256 → EReal) : EReal :=
  Ideal.log (max (∑ e : Fin 256, Ideal.exp (L e - shift L)) (-(∑ e : Fin 256, Ideal.exp (L e - shift L)))) + shift L

/-- The reference's gradient of the log-sum-exp term at expert `e`. -/
def refZ (c : EReal) (L : Fin 256 → EReal) (e : Fin 256) : EReal :=
  c * refLse L * Ideal.exp (L e - refLse L)

/-- The kernel's gradient of the token's logit `e`: the slots added one after another to the log-sum-exp part. -/
def kerRow (c : EReal) (L : Fin 256 → EReal) (ids : Fin 8 → BitVec 32) (dg : Fin 8 → EReal) (e : Fin 256) : EReal :=
  kerZ c L e + slotAt L ids dg e 0 + slotAt L ids dg e 1 + slotAt L ids dg e 2 + slotAt L ids dg e 3
    + slotAt L ids dg e 4 + slotAt L ids dg e 5 + slotAt L ids dg e 6 + slotAt L ids dg e 7

/-- The reference's gradient of the token's logit `e`: the sum of the slots, then the log-sum-exp part. -/
def refRow (c : EReal) (L : Fin 256 → EReal) (ids : Fin 8 → BitVec 32) (dg : Fin 8 → EReal) (e : Fin 256) : EReal :=
  (∑ k : Fin 8, slotAt L ids dg e k) + refZ c L e

/-- The word the programs start a maximum from denotes `⊥`. -/
theorem negInf : Ideal.ofBits .f32 0xFF800000#32 = ⊥ := by simp [Ideal.ofBits, Ideal.ieee]

/-- Every one of the numbers is at most their maximum. -/
theorem le_peak {n : ℕ} (f : Fin n → EReal) (i : Fin n) : f i ≤ peak f :=
  (Finset.le_fold_max (f i)).mpr (.inr ⟨i, Finset.mem_univ i, le_rfl⟩)

/-- The maximum is `⊥` or one of the numbers. -/
theorem peak_mem {n : ℕ} (f : Fin n → EReal) : peak f = ⊥ ∨ ∃ i, peak f = f i := by
  rcases (Finset.le_fold_max (peak f)).mp (le_refl (peak f)) with h | ⟨i, -, h⟩
  · exact .inl (le_bot_iff.mp h)
  · exact .inr ⟨i, le_antisymm h (le_peak f i)⟩

/-- The exponential is never below zero. -/
theorem exp_nonneg (x : EReal) : 0 ≤ Ideal.exp x := by
  induction x with
  | bot => exact le_refl _
  | top => exact le_top
  | coe r => exact EReal.coe_nonneg.mpr (Real.exp_pos r).le

/-- At an infinite maximum above, every numerator of the kernel is zero. -/
theorem ex_of_top {L : Fin 256 → EReal} (h : peak L = ⊤) (e : Fin 256) : ex L e = 0 := by
  unfold ex; rw [h]
  have : L e - ⊤ = ⊥ := EReal.sub_top _
  rw [this]; rfl

/-- At an infinite maximum below, every numerator of the kernel is zero. -/
theorem ex_of_bot {L : Fin 256 → EReal} (h : peak L = ⊥) (e : Fin 256) : ex L e = 0 := by
  have hb : L e = ⊥ := le_bot_iff.mp (h ▸ le_peak L e)
  unfold ex; rw [hb, EReal.bot_sub]; rfl

/-- At an infinite maximum above, the reference's log-sum-exp is `⊤`. -/
theorem refLse_of_top {L : Fin 256 → EReal} (h : peak L = ⊤) : refLse L = ⊤ := by
  have hs : shift L = 0 := if_pos (.inl h)
  obtain ⟨i, hi⟩ : ∃ i, L i = ⊤ := by
    rcases peak_mem L with hb | ⟨i, hi⟩
    · rw [h] at hb; exact absurd hb (by decide)
    · exact ⟨i, by rw [← hi, h]⟩
  have hsum : (∑ e : Fin 256, Ideal.exp (L e - shift L)) = ⊤ := by
    rw [hs]
    refine top_le_iff.mp ?_
    refine le_trans ?_ (Finset.single_le_sum (f := fun e => Ideal.exp (L e - 0)) (fun e _ => exp_nonneg _) (Finset.mem_univ i))
    show (⊤ : EReal) ≤ Ideal.exp (L i - 0)
    rw [hi, sub_zero]; exact le_refl _
  unfold refLse
  rw [hsum, hs, max_eq_left le_top, add_zero]; rfl

/-- At an infinite maximum below, the reference's log-sum-exp is `⊥`. -/
theorem refLse_of_bot {L : Fin 256 → EReal} (h : peak L = ⊥) : refLse L = ⊥ := by
  have hs : shift L = 0 := if_pos (.inr h)
  have hb : ∀ e, L e = ⊥ := fun e => le_bot_iff.mp (h ▸ le_peak L e)
  have hsum : (∑ e : Fin 256, Ideal.exp (L e - shift L)) = 0 :=
    Finset.sum_eq_zero fun e _ => by rw [hs, hb e, sub_zero]; rfl
  unfold refLse
  rw [hsum, hs, add_zero, neg_zero, max_self]
  show Ideal.log ((0 : ℝ) : EReal) = ⊥
  exact if_pos (le_refl (0 : ℝ))

/-- At a finite maximum every numerator of the kernel is a real number of at most one. -/
theorem ex_real {L : Fin 256 → EReal} {r : ℝ} (h : peak L = (r : EReal)) (e : Fin 256) :
    ∃ y : ℝ, 0 ≤ y ∧ ex L e = (y : EReal) := by
  have hle : L e ≤ (r : EReal) := h ▸ le_peak L e
  unfold ex; rw [h]
  generalize L e = x at hle
  induction x with
  | bot => exact ⟨0, le_refl _, rfl⟩
  | top => exact absurd (top_le_iff.mp hle) (EReal.coe_ne_top r)
  | coe a => exact ⟨Real.exp (a - r), (Real.exp_pos _).le, rfl⟩

/-- At a finite maximum the kernel's denominator is a positive real number. -/
theorem tot_real {L : Fin 256 → EReal} {r : ℝ} (h : peak L = (r : EReal)) :
    ∃ y : ℝ, 0 < y ∧ tot L = (y : EReal) := by
  choose y hy0 hy using fun e => ex_real h e
  refine ⟨∑ e, y e, ?_, ?_⟩
  · rcases peak_mem L with hb | ⟨i, hi⟩
    · rw [h] at hb; exact absurd hb (EReal.coe_ne_bot r)
    · have h1 : y i = 1 := by
        have : ex L i = ((1 : ℝ) : EReal) := by
          unfold ex; rw [← hi, h]
          show ((Real.exp (r - r) : ℝ) : EReal) = _
          rw [sub_self, Real.exp_zero]
        rw [hy i] at this
        exact EReal.coe_injective this
      calc (0 : ℝ) < 1 := one_pos
        _ = y i := h1.symm
        _ ≤ ∑ e, y e := Finset.single_le_sum (fun e _ => hy0 e) (Finset.mem_univ i)
  · unfold tot
    rw [Finset.sum_congr rfl fun e _ => hy e]
    exact (map_sum (⟨⟨((↑) : ℝ → EReal), EReal.coe_zero⟩, EReal.coe_add⟩ : ℝ →+ EReal) y Finset.univ).symm

/-- The log-sum-exp parts agree at every expert, whatever the logits. -/
theorem kerZ_eq_refZ (c : EReal) (L : Fin 256 → EReal) (e : Fin 256) : kerZ c L e = refZ c L e := by
  rcases eq_or_ne (peak L) ⊤ with ht | ht
  · unfold kerZ refZ
    rw [ex_of_top ht, refLse_of_top ht, EReal.sub_top, zero_mul]
    exact (mul_zero _).symm
  rcases eq_or_ne (peak L) ⊥ with hb | hb
  · have hL : L e = ⊥ := le_bot_iff.mp (hb ▸ le_peak L e)
    unfold kerZ refZ
    rw [ex_of_bot hb, refLse_of_bot hb, hL, EReal.bot_sub, zero_mul]
    exact (mul_zero _).symm
  obtain ⟨r, hr⟩ : ∃ r : ℝ, peak L = (r : EReal) := ⟨_, (EReal.coe_toReal ht hb).symm⟩
  obtain ⟨y, hy, htot⟩ := tot_real hr
  have hs : shift L = peak L := if_neg (by rintro (h | h); exacts [ht h, hb h])
  have hlog : Ideal.log (y : EReal) = ((Real.log y : ℝ) : EReal) := if_neg (not_le.mpr hy)
  have hsum : (∑ e : Fin 256, Ideal.exp (L e - shift L)) = (y : EReal) := by rw [hs]; exact htot
  have hlse : refLse L = ((r + Real.log y : ℝ) : EReal) := by
    unfold refLse
    rw [hsum, hs, hr, max_eq_left, hlog, add_comm, EReal.coe_add]
    rw [← EReal.coe_neg]; exact EReal.coe_le_coe_iff.mpr (by linarith)
  have hk : peak L + Ideal.log (tot L) = ((r + Real.log y : ℝ) : EReal) := by
    rw [hr, htot, hlog, EReal.coe_add]
  have hy0 : (y : EReal) ≠ 0 := by exact_mod_cast hy.ne'
  have hp : Ideal.exp (L e - ((r + Real.log y : ℝ) : EReal)) = ex L e * ((y⁻¹ : ℝ) : EReal) := by
    have hle : L e ≤ (r : EReal) := hr ▸ le_peak L e
    unfold ex; rw [hr]
    generalize L e = x at hle
    induction x with
    | bot =>
      rw [EReal.bot_sub, EReal.bot_sub]
      exact (zero_mul _).symm
    | top => exact absurd (top_le_iff.mp hle) (EReal.coe_ne_top r)
    | coe a =>
      show ((Real.exp (a - (r + Real.log y)) : ℝ) : EReal) = ((Real.exp (a - r) : ℝ) : EReal) * _
      rw [← EReal.coe_mul, ← sub_sub, Real.exp_sub, Real.exp_log hy, div_eq_mul_inv]
  unfold kerZ refZ
  rw [hk, hlse, htot, hp]
  unfold Ideal.div
  rw [if_neg hy0, ← EReal.coe_inv]
  ac_rfl

/-- The token's gradient is the same number in both programs. -/
theorem kerRow_eq_refRow (c : EReal) (L : Fin 256 → EReal) (ids : Fin 8 → BitVec 32) (dg : Fin 8 → EReal) (e : Fin 256) :
    kerRow c L ids dg e = refRow c L ids dg e := by
  unfold kerRow refRow
  rw [kerZ_eq_refZ, Fin.sum_univ_eight]
  ac_rfl

end Cert.Route

end
-- ==== Proof.Unit.lean ====
/-
  What one unit of the kernel's body computes: 128 tokens, held along the lanes, the experts along the sublanes.

  The body does two units per grid point and writes them with the same operations.  `grad lt ids dg` names the gradient
  of the logits that a unit computes from its logits `lt`, its chosen experts `ids` and its gate gradients `dg`;
  `grad_apply` states that its entry (expert `e`, lane `l`) is `Route.kerRow` of lane `l`'s token.
-/
module

public import proofs.«01_k».proof.Proof.Gen.KernelIdeal.Skeleton
public import proofs.«01_k».proof.Proof.Route
public import Idealize.ShloMosaic.Lib.Pointwise

@[expose] public section

set_option maxRecDepth 16384

noncomputable section

namespace Cert.KernelIdeal.Unit

open Idealize Idealize.ShloMosaic
open Cert Cert.KernelIdeal Cert.KernelIdeal.Gen Cert.Route
open scoped BigOperators

/-- The mask's zero. -/
abbrev zero256 : FVec Ideal S256x128 .f32 := broadcast S256x128 (Scalar.ofBits .f32 0x00000000#32)

/-- The logits of a slot's expert in each lane, by a sum over the experts of the masked logits, as one row. -/
def row (h : IVec S256x128 1) (lt : FVec Ideal S256x128 .f32) : FVec Ideal S1x128 .f32 :=
  shapeCast S1x128 (multiReduction .add [0] S128 (select h lt zero256) 0x00000000#32 reduces_S256x128_S128 (.inl rfl) rfl)
    shapeCasts_S128_S1x128

/-- The eight slots' rows, one under another. -/
def rows (ids : Vec Ideal S1x8x128 .i32) (lt : FVec Ideal S256x128 .f32) : FVec Ideal S8x128 .f32 :=
  concatenate S8x128 0 [⟨S1x128, row (k0_pay8 ids) lt⟩, ⟨S1x128, row (k0_pay9 ids) lt⟩, ⟨S1x128, row (k0_pay10 ids) lt⟩,
    ⟨S1x128, row (k0_pay11 ids) lt⟩, ⟨S1x128, row (k0_pay12 ids) lt⟩, ⟨S1x128, row (k0_pay13 ids) lt⟩,
    ⟨S1x128, row (k0_pay14 ids) lt⟩, ⟨S1x128, row (k0_pay15 ids) lt⟩]
    concatenates_S1x128_S1x128_S1x128_S1x128_S1x128_S1x128_S1x128_S1x128_S8x128_d0

/-- The softmax over the eight sublanes. -/
def softmax (p : FVec Ideal S8x128 .f32) : FVec Ideal S8x128 .f32 :=
  have q : FVec Ideal S8x128 .f32 := exp (subf p (broadcastTo S8x128 (shapeCast S1x128
    (multiReduction .maximumf [0] S128 p 0xFF800000#32 reduces_S8x128_S128 (.inl rfl) rfl) shapeCasts_S128_S1x128)
    broadcasts_S1x128_S8x128))
  divf q (broadcastTo S8x128 (shapeCast S1x128
    (multiReduction .add [0] S128 q 0x00000000#32 reduces_S8x128_S128 (.inl rfl) rfl) shapeCasts_S128_S1x128)
    broadcasts_S1x128_S8x128)

/-- The softmax's gradient: `g * (dg - ∑ g dg)`. -/
def slots (g : FVec Ideal S8x128 .f32) (dg : Vec Ideal S1x8x128 .bf16) : FVec Ideal S8x128 .f32 :=
  mulf g (subf (k0_pay7 dg) (broadcastTo S8x128 (shapeCast S1x128
    (multiReduction .add [0] S128 (mulf g (k0_pay7 dg)) 0x00000000#32 reduces_S8x128_S128 (.inl rfl) rfl)
    shapeCasts_S128_S1x128) broadcasts_S1x128_S8x128))

/-- The gradient of the log-sum-exp term. -/
def zPart (lt : FVec Ideal S256x128 .f32) : FVec Ideal S256x128 .f32 :=
  have m : FVec Ideal S1x128 .f32 := shapeCast S1x128
    (multiReduction .maximumf [0] S128 lt 0xFF800000#32 reduces_S256x128_S128 (.inl rfl) rfl) shapeCasts_S128_S1x128
  have q : FVec Ideal S256x128 .f32 := exp (subf lt (broadcastTo S256x128 m broadcasts_S1x128_S256x128))
  have t : FVec Ideal S1x128 .f32 := shapeCast S1x128
    (multiReduction .add [0] S128 q 0x00000000#32 reduces_S256x128_S128 (.inl rfl) rfl) shapeCasts_S128_S1x128
  mulf q (broadcastTo S256x128 (divf (mulf (broadcast S1x128 (Scalar.ofBits .f32 0x3CA3D70A#32)) (addf m (log t))) t)
    broadcasts_S1x128_S256x128)

/-- A slot's gradient, a row, at the experts that the mask `h` names and zero elsewhere. -/
def spread (h : IVec S256x128 1) (r : FVec Ideal S1x128 .f32) : FVec Ideal S256x128 .f32 :=
  select h (broadcastTo S256x128 (shapeCast S1x128 r shapeCasts_S1x128_S1x128) broadcasts_S1x128_S256x128) zero256

/-- The gradient of a unit's logits: the log-sum-exp part, then the eight slots added one after another. -/
def grad (lt : FVec Ideal S256x128 .f32) (ids : Vec Ideal S1x8x128 .i32) (dg : Vec Ideal S1x8x128 .bf16) :
    FVec Ideal S256x128 .f32 :=
  have d : FVec Ideal S8x128 .f32 := slots (softmax (rows ids lt)) dg
  addf (addf (addf (addf (addf (addf (addf (addf (zPart lt)
    (spread (k0_pay8 ids) (extractStridedSlice S1x128 ![0, 0] d slices_S8x128_o0_0_S1x128)))
    (spread (k0_pay9 ids) (extractStridedSlice S1x128 ![1, 0] d slices_S8x128_o1_0_S1x128)))
    (spread (k0_pay10 ids) (extractStridedSlice S1x128 ![2, 0] d slices_S8x128_o2_0_S1x128)))
    (spread (k0_pay11 ids) (extractStridedSlice S1x128 ![3, 0] d slices_S8x128_o3_0_S1x128)))
    (spread (k0_pay12 ids) (extractStridedSlice S1x128 ![4, 0] d slices_S8x128_o4_0_S1x128)))
    (spread (k0_pay13 ids) (extractStridedSlice S1x128 ![5, 0] d slices_S8x128_o5_0_S1x128)))
    (spread (k0_pay14 ids) (extractStridedSlice S1x128 ![6, 0] d slices_S8x128_o6_0_S1x128)))
    (spread (k0_pay15 ids) (extractStridedSlice S1x128 ![7, 0] d slices_S8x128_o7_0_S1x128))

/-- A slot's row in lane `l`: the sum over the experts of the masked logits. -/
theorem row_apply (h : IVec S256x128 1) (lt : FVec Ideal S256x128 .f32) (l : Fin 128) :
    row h lt (ix2 0 l) = ∑ e : Fin 256, Scalar.select (h (ix2 e l)) (lt (ix2 e l)) 0 := by
  pointwise [row]

/-- The eight masks of a unit, by the slot. -/
def masks (ids : Vec Ideal S1x8x128 .i32) : Fin 8 → IVec S256x128 1 :=
  ![k0_pay8 (F := Ideal) ids, k0_pay9 (F := Ideal) ids, k0_pay10 (F := Ideal) ids, k0_pay11 (F := Ideal) ids,
    k0_pay12 (F := Ideal) ids, k0_pay13 (F := Ideal) ids, k0_pay14 (F := Ideal) ids, k0_pay15 (F := Ideal) ids]

/-- Slot `k`'s mask at expert `e` of lane `l` says whether the slot's expert is `e`. -/
theorem masks_apply (ids : Vec Ideal S1x8x128 .i32) (k : Fin 8) (e : Fin 256) (l : Fin 128) :
    masks ids k (ix2 e l) = hit (ids (ix3 0 k l)) e := by
  obtain ⟨k, hk⟩ := k
  interval_cases k <;>
  · pointwise [masks, k0_pay8, k0_pay9, k0_pay10, k0_pay11, k0_pay12, k0_pay13, k0_pay14, k0_pay15, k0_pay6]
    rfl

/-- Slot `k`'s row in lane `l` is the logit that the slot picks in the lane's token. -/
theorem rows_apply (ids : Vec Ideal S1x8x128 .i32) (lt : FVec Ideal S256x128 .f32) (k : Fin 8) (l : Fin 128) :
    rows ids lt (ix2 k l) = picked (fun e => lt (ix2 e l)) (fun k => ids (ix3 0 k l)) k := by
  have hm : picked (fun e => lt (ix2 e l)) (fun k => ids (ix3 0 k l)) k = row (masks ids k) lt (ix2 0 l) := by
    rw [row_apply]; simp only [masks_apply]; rfl
  rw [hm]
  pointwise [rows]
  obtain ⟨k, hk⟩ := k
  interval_cases k <;>
  · rfl

/-- The softmax at slot `k` of lane `l`. -/
theorem softmax_apply (p : FVec Ideal S8x128 .f32) (k : Fin 8) (l : Fin 128) :
    softmax p (ix2 k l) = gate (fun k => p (ix2 k l)) k := by
  pointwise [softmax]
  rw [negInf]; rfl

/-- The softmax's gradient at slot `k` of lane `l`. -/
theorem slots_apply (g : FVec Ideal S8x128 .f32) (dg : Vec Ideal S1x8x128 .bf16) (k : Fin 8) (l : Fin 128) :
    slots g dg (ix2 k l) = g (ix2 k l) * (dg (ix3 0 k l) - ∑ j : Fin 8, g (ix2 j l) * dg (ix3 0 j l)) := by
  pointwise [slots, k0_pay7]

/-- The log-sum-exp part at expert `e` of lane `l`. -/
theorem zPart_apply (lt : FVec Ideal S256x128 .f32) (e : Fin 256) (l : Fin 128) :
    zPart lt (ix2 e l) = kerZ (Ideal.ofBits .f32 0x3CA3D70A#32) (fun e => lt (ix2 e l)) e := by
  pointwise [zPart]
  rw [negInf]; rfl

/-- A spread row at expert `e` of lane `l`. -/
theorem spread_apply (h : IVec S256x128 1) (r : FVec Ideal S1x128 .f32) (e : Fin 256) (l : Fin 128) :
    spread h r (ix2 e l) = Scalar.select (h (ix2 e l)) (r (ix2 0 l)) 0 := by
  pointwise [spread]

/-- A unit's gradient at expert `e` of lane `l` is the kernel's gradient of the lane's token. -/
theorem grad_apply (lt : FVec Ideal S256x128 .f32) (ids : Vec Ideal S1x8x128 .i32) (dg : Vec Ideal S1x8x128 .bf16)
    (e : Fin 256) (l : Fin 128) :
    grad lt ids dg (ix2 e l)
      = kerRow (Ideal.ofBits .f32 0x3CA3D70A#32) (fun e => lt (ix2 e l)) (fun k => ids (ix3 0 k l))
          (fun k => dg (ix3 0 k l)) e := by
  have hd : ∀ k, slots (softmax (rows ids lt)) dg (ix2 k l)
      = slotGrad (fun e => lt (ix2 e l)) (fun k => ids (ix3 0 k l)) (fun k => dg (ix3 0 k l)) k := fun k => by
    rw [slots_apply]; simp only [softmax_apply, rows_apply]; rfl
  have hm : ∀ k, masks ids k (ix2 e l) = hit (ids (ix3 0 k l)) e := fun k => masks_apply ids k e l
  have h0 := hm 0; have h1 := hm 1; have h2 := hm 2; have h3 := hm 3
  have h4 := hm 4; have h5 := hm 5; have h6 := hm 6; have h7 := hm 7
  change k0_pay8 (F := Ideal) ids _ = _ at h0; change k0_pay9 (F := Ideal) ids _ = _ at h1
  change k0_pay10 (F := Ideal) ids _ = _ at h2; change k0_pay11 (F := Ideal) ids _ = _ at h3
  change k0_pay12 (F := Ideal) ids _ = _ at h4; change k0_pay13 (F := Ideal) ids _ = _ at h5
  change k0_pay14 (F := Ideal) ids _ = _ at h6; change k0_pay15 (F := Ideal) ids _ = _ at h7
  pointwise [grad]
  simp only [spread_apply, zPart_apply, h0, h1, h2, h3, h4, h5, h6, h7]
  pointwise
  simp only [hd]
  rfl

end Cert.KernelIdeal.Unit

end
-- ==== Proof.Block.lean ====
/-
  What one grid point of the kernel computes: 256 tokens, two units of 128.

  `dlB`, `dxB` and `dwB` name the three blocks as functions of the point's input blocks: the gradient of the logits, the
  gradient of the activations, and what the point adds to the gradient of the router's weights.  `out7`, `out5`,
  `out6_first` and `out6_next` state that the body leaves them; `dlB_apply`, `dxB_apply` and `dwB_apply` read them at an
  index, each over `blkRow`, the kernel's gradient of one token of the block.
-/
module

public import proofs.«01_k».proof.Proof.Gen.KernelIdeal.Frame
public import proofs.«01_k».proof.Proof.Unit
public import Idealize.ShloMosaic.Lib.Pipeline.ValueKit

@[expose] public section

set_option maxRecDepth 16384

noncomputable section

namespace Cert.KernelIdeal.Block

open Idealize Idealize.ShloMosaic Idealize.ShloMosaic.TcCoe Idealize.SL.Sem
open Cert Cert.KernelIdeal Cert.KernelIdeal.Gen Cert.KernelIdeal.Unit Cert.Route
open scoped BigOperators

section Blocks

variable (x : Vec Ideal S256x7168 .fp8e4m3) (s : Vec Ideal S2x1x128 .f32) (w : Vec Ideal S7168x256 .bf16)
  (ids : Vec Ideal S2x8x128 .i32) (dg : Vec Ideal S2x8x128 .bf16)

/-- The first unit's scales. -/
def s0 : Vec Ideal S1x1x128 .f32 := View.ld s (Rect.unit ![0, 0, 0] ![1, 1, 128] inb_S2x1x128_S1x1x128_0_0_0)

/-- The second unit's scales. -/
def s1 : Vec Ideal S1x1x128 .f32 := View.ld s (Rect.unit ![1, 0, 0] ![1, 1, 128] inb_S2x1x128_S1x1x128_1_0_0)

/-- The first unit's gradient of its logits. -/
def grad0 : FVec Ideal S256x128 .f32 :=
  grad (k0_pay5 x w (s0 s)) (View.ld ids (Rect.unit ![0, 0, 0] ![1, 8, 128] inb_S2x8x128_S1x8x128_0_0_0))
    (View.ld dg (Rect.unit ![0, 0, 0] ![1, 8, 128] inb_S2x8x128_S1x8x128_0_0_0))

/-- The second unit's gradient of its logits. -/
def grad1 : FVec Ideal S256x128 .f32 :=
  grad (k0_pay27 (k0_pay3 x w) (s1 s)) (View.ld ids (Rect.unit ![1, 0, 0] ![1, 8, 128] inb_S2x8x128_S1x8x128_1_0_0))
    (View.ld dg (Rect.unit ![1, 0, 0] ![1, 8, 128] inb_S2x8x128_S1x8x128_1_0_0))

/-- The block of the logits' gradient: the two units' gradients with the tokens along the rows, one above the other. -/
def dlB : FVec Ideal S256x256 .f32 :=
  concatenate S256x256 0 [⟨S128x256, transpose S128x256 [1, 0] (grad0 x s w ids dg) transposes_S256x128_p1_0_S128x256⟩,
    ⟨S128x256, transpose S128x256 [1, 0] (grad1 x s w ids dg) transposes_S256x128_p1_0_S128x256⟩]
    concatenates_S128x256_S128x256_S256x256_d0

/-- The block of the activations' gradient: the logits' gradient times the weights. -/
def dxB : FVec Ideal S256x7168 .bf16 :=
  truncf .bf16 (matmul (φ₂ := .bf16) dot_S256x256_S7168x256_S256x7168_1_1_0_0_n_n none (truncf .bf16 (dlB x s w ids dg) bitsLt_bf16_f32) w
    (constant S256x7168 .f32 0x00000000#32)) bitsLt_bf16_f32

/-- A unit's gradient times its tokens' scales. -/
def scaled (g : FVec Ideal S256x128 .f32) (r : FVec Ideal S1x128 .f32) : FVec Ideal S256x128 .bf16 :=
  mulf (truncf .bf16 g bitsLt_bf16_f32) (broadcastTo S256x128 (truncf .bf16 r bitsLt_bf16_f32) broadcasts_S1x128_S256x128)

/-- What the block adds to the weights' gradient, transposed back. -/
def dwB : FVec Ideal S7168x256 .f32 :=
  transpose S7168x256 [1, 0] (matmul dot_S256x256_S256x7168_S256x7168_1_0_0_1_n_n none
    (concatenate S256x256 1 [⟨S256x128, scaled (grad0 x s w ids dg) (k0_pay4 (s0 s))⟩,
      ⟨S256x128, scaled (grad1 x s w ids dg) (k0_pay26 (s1 s))⟩] concatenates_S256x128_S256x128_S256x256_d1)
    (k0_pay2 x) (constant S256x7168 .f32 0x00000000#32)) transposes_S256x7168_p1_0_S7168x256

/-- The kernel's gradient of the logits of the block's token `r`, whose unit is `r / 128` and whose lane is `r % 128`. -/
def blkRow (r : Fin 256) (e : Fin 256) : EReal :=
  kerRow (Ideal.ofBits .f32 0x3CA3D70A#32)
    (fun e => (∑ d : Fin 7168, x (ix2 r d) * w (ix2 d e)) * s (ix3 ⟨r.val / 128, by omega⟩ 0 ⟨r.val % 128, by omega⟩))
    (fun k => ids (ix3 ⟨r.val / 128, by omega⟩ k ⟨r.val % 128, by omega⟩))
    (fun k => dg (ix3 ⟨r.val / 128, by omega⟩ k ⟨r.val % 128, by omega⟩)) e

/-- The first unit's gradient at lane `l` is the gradient of the block's token `l`. -/
theorem grad0_apply (e : Fin 256) (l : Fin 128) :
    grad0 x s w ids dg (ix2 e l) = blkRow x s w ids dg ⟨l.val, by omega⟩ e := by
  unfold grad0 blkRow
  rw [grad_apply]
  have h1 : (⟨l.val / 128, by omega⟩ : Fin 2) = 0 := Fin.ext (by show l.val / 128 = 0; omega)
  have h2 : (⟨l.val % 128, by omega⟩ : Fin 128) = l := Fin.ext (by show l.val % 128 = l.val; omega)
  pointwise [k0_pay5, k0_pay4, k0_pay3, k0_pay2, s0]
  simp only [h1, h2]

/-- The second unit's gradient at lane `l` is the gradient of the block's token `128 + l`. -/
theorem grad1_apply (e : Fin 256) (l : Fin 128) :
    grad1 x s w ids dg (ix2 e l) = blkRow x s w ids dg ⟨128 + l.val, by omega⟩ e := by
  unfold grad1 blkRow
  rw [grad_apply]
  have h1 : (⟨(128 + l.val) / 128, by omega⟩ : Fin 2) = 1 := Fin.ext (by show (128 + l.val) / 128 = 1; omega)
  have h2 : (⟨(128 + l.val) % 128, by omega⟩ : Fin 128) = l := Fin.ext (by show (128 + l.val) % 128 = l.val; omega)
  pointwise [k0_pay27, k0_pay26, k0_pay3, k0_pay2, s1]
  simp only [h1, h2]

/-- Row `r` of the logits' gradient is the gradient of the block's token `r`. -/
theorem dlB_apply (r e : Fin 256) : dlB x s w ids dg (ix2 r e) = blkRow x s w ids dg r e := by
  pointwise [dlB]
  split
  · exact grad0_apply x s w ids dg e _
  · refine (grad1_apply x s w ids dg e _).trans ?_
    congr 1
    exact Fin.ext (by show 128 + (r.val - 128) = r.val; omega)

/-- An entry of the activations' gradient: the token's gradient against a row of the weights. -/
theorem dxB_apply (r : Fin 256) (d : Fin 7168) :
    dxB x s w ids dg (ix2 r d) = ∑ e : Fin 256, blkRow x s w ids dg r e * w (ix2 d e) := by
  pointwise [dxB]
  exact Finset.sum_congr rfl fun e _ => by rw [dlB_apply]

/-- An entry of what the block adds to the weights' gradient: a sum over the block's tokens. -/
theorem dwB_apply (d : Fin 7168) (e : Fin 256) :
    dwB x s w ids dg (ix2 d e)
      = ∑ r : Fin 256, blkRow x s w ids dg r e * s (ix3 ⟨r.val / 128, by omega⟩ 0 ⟨r.val % 128, by omega⟩) * x (ix2 r d) := by
  pointwise [dwB, scaled, k0_pay4, k0_pay26, k0_pay2, s0, s1]
  rw [Fin.sum_univ_two_halves 128 128 rfl]
  refine congrArg₂ (· + ·) (Finset.sum_congr rfl fun l _ => ?_) (Finset.sum_congr rfl fun l _ => ?_)
  · have h1 : (⟨l.val / 128, by omega⟩ : Fin 2) = 0 := Fin.ext (by show l.val / 128 = 0; omega)
    have h2 : (⟨l.val % 128, by omega⟩ : Fin 128) = l := Fin.ext (by show l.val % 128 = l.val; omega)
    rw [grad0_apply]
    simp only [h1, h2]
  · have h1 : (⟨(128 + l.val) / 128, by omega⟩ : Fin 2) = 1 := Fin.ext (by show (128 + l.val) / 128 = 1; omega)
    have h2 : (⟨(128 + l.val) % 128, by omega⟩ : Fin 128) = l := Fin.ext (by show (128 + l.val) % 128 = l.val; omega)
    rw [grad1_apply]
    simp only [h1, h2]

end Blocks

section Outs

variable (m : (ℓ : Loc nD τ sig) → Buf (Elt Ideal) ℓ) (c : Dev nD) (t : Fin cfg0.N)

/-- Every point leaves its block of the logits' gradient. -/
theorem out7 : (outsAt0 m c t.val t.isLt).2.2
    = dlB (iblk m c 0 t) (iblk m c 1 t) (iblk m c 2 t) (iblk m c 3 t) (iblk m c 4 t) := by
  by_cases h0 : t.val % 8 = 0
  · rw [outsAt0_A m c t h0]
    dsimp only
    frame_out
    rfl
  · rw [outsAt0_B m c t h0]
    dsimp only
    frame_out
    rfl

/-- Every point leaves its block of the activations' gradient. -/
theorem out5 : (outsAt0 m c t.val t.isLt).1
    = dxB (iblk m c 0 t) (iblk m c 1 t) (iblk m c 2 t) (iblk m c 3 t) (iblk m c 4 t) := by
  by_cases h0 : t.val % 8 = 0
  · rw [outsAt0_A m c t h0]
    dsimp only
    frame_out
    rfl
  · rw [outsAt0_B m c t h0]
    dsimp only
    frame_out
    rfl

/-- The first point leaves its own part of the weights' gradient, added to zero. -/
theorem out6_first (h0 : t.val % 8 = 0) : (outsAt0 m c t.val t.isLt).2.1
    = addf (k0_pay47 (k0_pay45 (F := Ideal)))
        (dwB (iblk m c 0 t) (iblk m c 1 t) (iblk m c 2 t) (iblk m c 3 t) (iblk m c 4 t)) := by
  rw [outsAt0_A m c t h0]
  dsimp only
  frame_out
  rfl

/-- Every later point adds its part to what the point before left. -/
theorem out6_next (h0 : ¬t.val % 8 = 0) : (outsAt0 m c t.val t.isLt).2.1
    = addf (k0_pay47 (outsAt0 m c (t.val - 1) (Nat.lt_of_le_of_lt (Nat.sub_le _ _) t.isLt)).2.1)
        (dwB (iblk m c 0 t) (iblk m c 1 t) (iblk m c 2 t) (iblk m c 3 t) (iblk m c 4 t)) := by
  rw [outsAt0_B m c t h0]
  dsimp only
  frame_out
  rfl

end Outs

end Cert.KernelIdeal.Block

end
-- ==== Proof.Spec.lean ====
/-
  The three results as functions of the five arguments, once as the kernel forms them and once as the reference does.

  A token `T` of the 2048 is position `T % 128` of sequence `T / 128`.  `dlK`, `dxK`, `dwK` are the kernel's gradients of the
  logits, of the activations and of the router's weights; `dlR`, `dxR`, `dwR` the reference's.  The last three theorems
  state that they are equal for all arguments.
-/
module

public import proofs.«01_k».proof.Proof.Route

@[expose] public section

set_option maxRecDepth 16384

noncomputable section

namespace Cert.Spec

open Idealize Idealize.ShloMosaic
open Cert.Route
open scoped BigOperators

variable (x : (⟨3, ![16, 128, 7168]⟩ : Shape).Idx → EReal) (s : (⟨2, ![16, 128]⟩ : Shape).Idx → EReal)
  (w : (⟨2, ![7168, 256]⟩ : Shape).Idx → EReal) (ids : (⟨3, ![16, 128, 8]⟩ : Shape).Idx → BitVec 32)
  (dg : (⟨3, ![16, 128, 8]⟩ : Shape).Idx → EReal)

/-- The sequence of token `T`. -/
abbrev seq (T : Fin 2048) : Fin 16 := ⟨T.val / 128, by omega⟩

/-- The position of token `T` in its sequence. -/
abbrev pos (T : Fin 2048) : Fin 128 := ⟨T.val % 128, by omega⟩

/-- The router's logit of token `T` at expert `e`: the product of codes and weights, times the token's scale. -/
def logit (T : Fin 2048) (e : Fin 256) : EReal :=
  (∑ d : Fin 7168, x (ix3 (seq T) (pos T) d) * w (ix2 d e)) * s (ix2 (seq T) (pos T))

/-- The kernel's gradient of the logit of token `T` at expert `e`. -/
def dlK (T : Fin 2048) (e : Fin 256) : EReal :=
  kerRow (Ideal.ofBits .f32 0x3CA3D70A#32) (logit x s w T) (fun k => ids (ix3 (seq T) (pos T) k))
    (fun k => dg (ix3 (seq T) (pos T) k)) e

/-- The kernel's gradient of the activations. -/
def dxK (T : Fin 2048) (d : Fin 7168) : EReal := ∑ e : Fin 256, dlK x s w ids dg T e * w (ix2 d e)

/-- What token `T` adds to the kernel's gradient of the weights. -/
def dwTerm (d : Fin 7168) (e : Fin 256) (T : Fin 2048) : EReal :=
  dlK x s w ids dg T e * s (ix2 (seq T) (pos T)) * x (ix3 (seq T) (pos T) d)

/-- The kernel's gradient of the weights: eight blocks of 256 tokens each. -/
def dwK (d : Fin 7168) (e : Fin 256) : EReal :=
  ∑ t : Fin 8, ∑ r : Fin 256, dwTerm x s w ids dg d e ⟨t.val * 256 + r.val, by omega⟩

/-- The reference's gradient of the logit of token `T` at expert `e`. -/
def dlR (T : Fin 2048) (e : Fin 256) : EReal :=
  refRow (Ideal.ofBits .f32 0x3CA3D70A#32) (logit x s w T) (fun k => ids (ix3 (seq T) (pos T) k))
    (fun k => dg (ix3 (seq T) (pos T) k)) e

/-- The reference's gradient of the activations. -/
def dxR (T : Fin 2048) (d : Fin 7168) : EReal := ∑ e : Fin 256, dlR x s w ids dg T e * w (ix2 d e)

/-- The reference's gradient of the weights: one sum over all the tokens. -/
def dwR (d : Fin 7168) (e : Fin 256) : EReal :=
  ∑ T : Fin 2048, x (ix3 (seq T) (pos T) d) * s (ix2 (seq T) (pos T)) * dlR x s w ids dg T e

/-- The two gradients of the logits are equal. -/
theorem dlK_eq (T : Fin 2048) (e : Fin 256) : dlK x s w ids dg T e = dlR x s w ids dg T e :=
  kerRow_eq_refRow _ _ _ _ _

/-- The two gradients of the activations are equal. -/
theorem dxK_eq (T : Fin 2048) (d : Fin 7168) : dxK x s w ids dg T d = dxR x s w ids dg T d :=
  Finset.sum_congr rfl fun e _ => by rw [dlK_eq]

/-- The two gradients of the weights are equal: the blocks' sums are one sum over the tokens. -/
theorem dwK_eq (d : Fin 7168) (e : Fin 256) : dwK x s w ids dg d e = dwR x s w ids dg d e := by
  have h : dwK x s w ids dg d e = ∑ T : Fin 2048, dwTerm x s w ids dg d e T := by
    unfold dwK
    rw [← Fintype.sum_prod_type']
    refine Fintype.sum_equiv (finProdFinEquiv (m := 8) (n := 256)) _ _ fun p => ?_
    refine congrArg _ (Fin.ext ?_)
    show p.1.val * 256 + p.2.val = p.2.val + 256 * p.1.val
    omega
  rw [h]
  refine Finset.sum_congr rfl fun T _ => ?_
  unfold dwTerm
  rw [dlK_eq]
  ac_rfl

end Cert.Spec

end
-- ==== Proof.KernelArrays.lean ====
/-
  What the kernel's three result arrays hold after the run, as functions of the argument arrays.

  Point `t` of the grid of eight holds tokens `256 t` to `256 t + 255`.  `row_eq` states that the gradient of the point's
  token `r` is the gradient of token `256 t + r`; `final7`, `final5` and `final6` state that the results are `Spec.dlK`,
  `Spec.dxK` and `Spec.dwK` of the arguments, the last a sum accumulated over the eight points.
-/
module

public import proofs.«01_k».proof.Proof.Block
public import proofs.«01_k».proof.Proof.Spec

@[expose] public section

set_option maxRecDepth 16384

noncomputable section

namespace Cert.KernelIdeal.Arrays

open Idealize Idealize.ShloMosaic Idealize.ShloMosaic.TcCoe Idealize.SL.Sem
open Cert Cert.KernelIdeal Cert.KernelIdeal.Gen Cert.KernelIdeal.Block Cert.Route
open scoped BigOperators

variable (m : (ℓ : Loc nD τ sig) → Buf (Elt Ideal) ℓ) (c : Dev nD)

/-- The activations' codes. -/
abbrev X : S16x128x7168.Idx → EReal := m ((c : Thread nD τ).loc main_arg0)
/-- The tokens' scales. -/
abbrev S : S16x128.Idx → EReal := m ((c : Thread nD τ).loc main_arg1)
/-- The router's weights. -/
abbrev W : S7168x256.Idx → EReal := m ((c : Thread nD τ).loc main_arg2)
/-- The chosen experts. -/
abbrev I : S16x128x8.Idx → BitVec 32 := m ((c : Thread nD τ).loc main_arg3)
/-- The gates' gradients. -/
abbrev G : S16x128x8.Idx → EReal := m ((c : Thread nD τ).loc main_arg4)

/-- The index maps of the input windows at a point. -/
theorem idx : ∀ t : Fin cfg0.N, win0_0.index t = ![t.val, 0] ∧ win0_1.index t = ![t.val, 0, 0] ∧ win0_2.index t = ![0, 0]
    ∧ win0_3.index t = ![t.val, 0, 0] ∧ win0_4.index t = ![t.val, 0, 0] ∧ win0_5.index t = ![t.val, 0]
    ∧ win0_6.index t = ![0, 0] ∧ win0_7.index t = ![t.val, 0] := by decide +kernel

/-- A token of a point, among all the tokens. -/
abbrev tok (t : Fin cfg0.N) (r : Fin 256) : Fin 2048 :=
  ⟨t.val * 256 + r.val, by have := lt_of_lt_of_eq t.isLt N_0; omega⟩

/-- A code of the point's block is the code of its token. -/
theorem blk0 (t : Fin cfg0.N) (r : Fin 256) (d : Fin 7168) :
    iblk m c 0 t (ix2 r d) = X m c (ix3 (Spec.seq (tok t r)) (Spec.pos (tok t r)) d) := by
  have ht := lt_of_lt_of_eq t.isLt N_0
  blk_ext! [iblk, V, idx t]

/-- A scale of the point's block is the scale of its token. -/
theorem blk1 (t : Fin cfg0.N) (r : Fin 256) :
    iblk m c 1 t (ix3 ⟨r.val / 128, by omega⟩ 0 ⟨r.val % 128, by omega⟩) = S m c (ix2 (Spec.seq (tok t r)) (Spec.pos (tok t r))) := by
  have ht := lt_of_lt_of_eq t.isLt N_0
  blk_ext! [iblk, V, idx t]

/-- Every point sees the whole of the weights. -/
theorem blk2 (t : Fin cfg0.N) (d : Fin 7168) (e : Fin 256) :
    iblk m c 2 t (ix2 d e) = W m c (ix2 d e) := by
  blk_ext [iblk, V, idx t]

/-- A chosen expert of the point's block is its token's. -/
theorem blk3 (t : Fin cfg0.N) (r : Fin 256) (k : Fin 8) :
    iblk m c 3 t (ix3 ⟨r.val / 128, by omega⟩ k ⟨r.val % 128, by omega⟩) = I m c (ix3 (Spec.seq (tok t r)) (Spec.pos (tok t r)) k) := by
  have ht := lt_of_lt_of_eq t.isLt N_0
  blk_ext! [iblk, V, idx t]

/-- A gate's gradient of the point's block is its token's. -/
theorem blk4 (t : Fin cfg0.N) (r : Fin 256) (k : Fin 8) :
    iblk m c 4 t (ix3 ⟨r.val / 128, by omega⟩ k ⟨r.val % 128, by omega⟩) = G m c (ix3 (Spec.seq (tok t r)) (Spec.pos (tok t r)) k) := by
  have ht := lt_of_lt_of_eq t.isLt N_0
  blk_ext! [iblk, V, idx t]

/-- The kernel's gradient of the logits, of all tokens. -/
abbrev DL : Fin 2048 → Fin 256 → EReal := Spec.dlK (X m c) (S m c) (W m c) (I m c) (G m c)

/-- The gradient of the point's token `r` is the gradient of token `256 t + r`. -/
theorem row_eq (t : Fin cfg0.N) (r e : Fin 256) :
    blkRow (iblk m c 0 t) (iblk m c 1 t) (iblk m c 2 t) (iblk m c 3 t) (iblk m c 4 t) r e = DL m c (tok t r) e := by
  unfold blkRow
  simp only [blk0, blk1, blk2, blk3, blk4]
  rfl

/-- A point's gradient of the activations is its tokens'. -/
theorem dx_eq (t : Fin cfg0.N) (r : Fin 256) (d : Fin 7168) :
    dxB (iblk m c 0 t) (iblk m c 1 t) (iblk m c 2 t) (iblk m c 3 t) (iblk m c 4 t) (ix2 r d)
      = Spec.dxK (X m c) (S m c) (W m c) (I m c) (G m c) (tok t r) d := by
  rw [dxB_apply]
  exact Finset.sum_congr rfl fun e _ => by rw [row_eq, blk2]

/-- Where a block of the logits' gradient lies in its array. -/
theorem emb7 (t : Fin cfg0.N) (r e : Fin 256) : (win0_7.blk t).view.emb (ix2 r e) = ix2 (tok t r) e := by
  blk_ext [idx t]

/-- Where a block of the activations' gradient lies in its array. -/
theorem emb5 (t : Fin cfg0.N) (r : Fin 256) (d : Fin 7168) : (win0_5.blk t).view.emb (ix2 r d) = ix2 (tok t r) d := by
  blk_ext [idx t]

/-- The gradient of the logits after the run. -/
theorem final7 : (dats m 0 c).arrAt 7 cfg0.N = fun i : S2048x256.Idx => DL m c (i 0) (i 1) := by
  refine (dats m 0 c).arrAt_eq_of_covers 7 _ (by decide +kernel) fun t hf y => ?_
  blk_simp
  rw [after0_7, out7]
  idx_vars y
  rw [emb7, dlB_apply, row_eq]
  rfl

/-- The gradient of the activations after the run. -/
theorem final5 : (dats m 0 c).arrAt 5 cfg0.N
    = fun i : S2048x7168.Idx => Spec.dxK (X m c) (S m c) (W m c) (I m c) (G m c) (i 0) (i 1) := by
  refine (dats m 0 c).arrAt_eq_of_covers 5 _ (by decide +kernel) fun t hf y => ?_
  blk_simp
  rw [after0_5, out5]
  idx_vars y
  rw [emb5]
  exact dx_eq m c t _ _

/-- What point `n` adds to the gradient of the weights, zero past the grid. -/
def part (n : ℕ) (j : S7168x256.Idx) : EReal :=
  if h : n < cfg0.N then ∑ r : Fin 256, Spec.dwTerm (X m c) (S m c) (W m c) (I m c) (G m c) (j 0) (j 1) (tok ⟨n, h⟩ r) else 0

/-- A point's part of the weights' gradient, over the tokens of the point. -/
theorem part_eq (t : Fin cfg0.N) (j : S7168x256.Idx) :
    dwB (iblk m c 0 t) (iblk m c 1 t) (iblk m c 2 t) (iblk m c 3 t) (iblk m c 4 t) j = part m c t.val j := by
  idx_vars j
  rw [dwB_apply]
  unfold part
  rw [dif_pos t.isLt]
  exact Finset.sum_congr rfl fun r _ => by rw [row_eq, blk1, blk0]; rfl

/-- What the accumulated block holds after a point: the parts of the points so far. -/
theorem acc (t : Fin cfg0.N) (j : S7168x256.Idx) :
    (outsAt0 m c t.val t.isLt).2.1 j = ∑ k ∈ Finset.range (t.val + 1), part m c k j := by
  have h := Pipeline.eq_sum_of_reset_step_apply (fun n h => (outsAt0 m c n h).2.1) 8 (fun _ => (0 : EReal)) (part m c)
    (fun t h j => by
      rw [out6_first m c t h, ← part_eq]
      pointwise [k0_pay47, k0_pay45])
    (fun t h j => by
      rw [out6_next m c t h, ← part_eq]
      pointwise [k0_pay47]) t j
  have ht := lt_of_lt_of_eq t.isLt N_0
  have h1 : t.val % 8 = t.val := Nat.mod_eq_of_lt ht
  have h2 : t.val / 8 = 0 := Nat.div_eq_of_lt ht
  simpa [h1, h2] using h

/-- The gradient of the weights after the run. -/
theorem final6 : (dats m 0 c).arrAt 6 cfg0.N
    = fun i : S7168x256.Idx => Spec.dwK (X m c) (S m c) (W m c) (I m c) (G m c) (i 0) (i 1) := by
  refine (dats m 0 c).arrAt_eq_of_after_last 6 t0_7 (by decide +kernel) _ fun j => ?_
  blk_simp
  rw [after0_6, acc]
  change ∑ k ∈ Finset.range 8, part m c k j = _
  rw [Finset.sum_range]
  exact Finset.sum_congr rfl fun t _ => by
    unfold part
    rw [dif_pos (lt_of_lt_of_eq t.isLt N_0.symm)]

end Cert.KernelIdeal.Arrays

end
-- ==== Proof.RefRow.lean ====
/-
  What the reference's body computes, token by token.

  `lg_apply` states that its logits at (token `r`, expert `e`) are the product of codes and weights times the scale;
  `dl_apply` that its gradient of the logits is `Route.refRow` of the token's logits; `dx_apply` and `dw_apply` that the
  other two results are the sums over the experts and over the tokens.
-/
module

public import proofs.«01_k».proof.Proof.Gen.ReferenceIdeal.Skeleton
public import proofs.«01_k».proof.Proof.Route
public import Idealize.ShloMosaic.Lib.Pointwise

@[expose] public section

set_option maxRecDepth 16384

noncomputable section

namespace Cert.ReferenceIdeal.Row

open Idealize Idealize.ShloMosaic
open Cert Cert.ReferenceIdeal Cert.ReferenceIdeal.Gen Cert.Route
open scoped BigOperators

/-- The mask's zero. -/
abbrev zero3 : FVec Ideal S2048x8x256 .f32 := broadcast S2048x8x256 (Scalar.ofBits .f32 0x00000000#32)

/-- The logits of the chosen experts. -/
def sel (h : IVec S2048x8x256 1) (lg : FVec Ideal S2048x256 .f32) : FVec Ideal S2048x8 .f32 :=
  multiReduction .add [2] S2048x8 (select h (broadcastTo S2048x8x256 (shapeCast S2048x1x256
    (shapeCast S2048x1x256 lg shapeCasts_S2048x256_S2048x1x256) shapeCasts_S2048x1x256_S2048x1x256)
    broadcasts_S2048x1x256_S2048x8x256) zero3) 0x00000000#32 reduces_S2048x8x256_S2048x8 (.inl rfl) rfl

/-- The softmax over the eight slots. -/
def softmax (p : FVec Ideal S2048x8 .f32) : FVec Ideal S2048x8 .f32 :=
  have q : FVec Ideal S2048x8 .f32 := exp (subf p (broadcastTo S2048x8 (shapeCast S2048x1
    (maximumf (broadcast S2048 (Scalar.ofBits .f32 0xFF800000#32))
      (multiReduction .maximumf [1] S2048 p 0xFF800000#32 reduces_S2048x8_S2048 (.inl rfl) rfl))
    shapeCasts_S2048_S2048x1) broadcasts_S2048x1_S2048x8))
  divf q (broadcastTo S2048x8 (shapeCast S2048x1
    (multiReduction .add [1] S2048 q 0x00000000#32 reduces_S2048x8_S2048 (.inl rfl) rfl)
    shapeCasts_S2048_S2048x1) broadcasts_S2048x1_S2048x8)

/-- The softmax's gradient: `g * (dg - ∑ g dg)`. -/
def slots (g dg : FVec Ideal S2048x8 .f32) : FVec Ideal S2048x8 .f32 :=
  mulf g (subf dg (broadcastTo S2048x8 (shapeCast S2048x1
    (multiReduction .add [1] S2048 (mulf g dg) 0x00000000#32 reduces_S2048x8_S2048 (.inl rfl) rfl)
    shapeCasts_S2048_S2048x1) broadcasts_S2048x1_S2048x8))

/-- The gates' gradients as they are read. -/
def gates (dg : Vec Ideal S2048x8 .bf16) : FVec Ideal S2048x8 .f32 :=
  extf .f32 (φ := .bf16) (shapeCast S2048x8 dg shapeCasts_S2048x8_S2048x8) bitsLt_bf16_f32

/-- The slots' gradients at their experts, summed over the slots. -/
def spread (h : IVec S2048x8x256 1) (d : FVec Ideal S2048x8x1 .f32) : FVec Ideal S2048x256 .f32 :=
  multiReduction .add [1] S2048x256 (select h (broadcastTo S2048x8x256
    (shapeCast S2048x8x1 d shapeCasts_S2048x8x1_S2048x8x1) broadcasts_S2048x8x1_S2048x8x256) zero3)
    0x00000000#32 reduces_S2048x8x256_S2048x256 (.inl rfl) rfl

/-- The maximum of a token's logits. -/
def top (lg : FVec Ideal S2048x256 .f32) : FVec Ideal S2048 .f32 :=
  maximumf (broadcast S2048 (Scalar.ofBits .f32 0xFF800000#32))
    (multiReduction .maximumf [1] S2048 lg 0xFF800000#32 reduces_S2048x256_S2048 (.inl rfl) rfl)

/-- The maximum where it is finite, else zero. -/
def fin (lg : FVec Ideal S2048x256 .f32) : FVec Ideal S2048 .f32 :=
  select (xori (weird (top lg)) (constantI S2048 1 1#1)) (top lg) (broadcast S2048 (Scalar.ofBits .f32 0x00000000#32))

/-- A token's log-sum-exp. -/
def lse (lg : FVec Ideal S2048x256 .f32) : FVec Ideal S2048 .f32 :=
  addf (log (absf (multiReduction .add [1] S2048 (exp (subf lg (broadcastTo S2048x256
    (shapeCast S2048x1 (fin lg) shapeCasts_S2048_S2048x1) broadcasts_S2048x1_S2048x256)))
    0x00000000#32 reduces_S2048x256_S2048 (.inl rfl) rfl))) (fin lg)

/-- The gradient of the log-sum-exp term, from the log-sum-exp. -/
def zPart (lg : FVec Ideal S2048x256 .f32) (l : FVec Ideal S2048 .f32) : FVec Ideal S2048x256 .f32 :=
  mulf (broadcastTo S2048x256 (mulf (broadcast S2048x1 (Scalar.ofBits .f32 0x3CA3D70A#32))
      (shapeCast S2048x1 l shapeCasts_S2048_S2048x1)) broadcasts_S2048x1_S2048x256)
    (exp (subf lg (broadcastTo S2048x256 (shapeCast S2048x1 l shapeCasts_S2048_S2048x1) broadcasts_S2048x1_S2048x256)))

/-- The mask at slot `k` and expert `e` of token `r`. -/
theorem mask_apply (ids : Vec Ideal S2048x8 .i32) (r : Fin 2048) (k : Fin 8) (e : Fin 256) :
    k0_pay4 (F := Ideal) ids (ix3 r k e) = hit (ids (ix2 r k)) e := by
  pointwise [k0_pay4]
  rfl

/-- The logits. -/
theorem lg_apply (x : Vec Ideal S2048x7168 .fp8e4m3) (s : Vec Ideal S2048x1 .f32) (w : Vec Ideal S7168x256 .bf16)
    (r : Fin 2048) (e : Fin 256) :
    k0_pay3 x s w (ix2 r e) = (∑ d : Fin 7168, x (ix2 r d) * w (ix2 d e)) * s (ix2 r 0) := by
  pointwise [k0_pay3, k0_pay1, k0_pay2]

/-- The logits of the chosen experts, at a slot. -/
theorem sel_apply (ids : Vec Ideal S2048x8 .i32) (lg : FVec Ideal S2048x256 .f32) (r : Fin 2048) (k : Fin 8) :
    sel (k0_pay4 (F := Ideal) ids) lg (ix2 r k) = picked (fun e => lg (ix2 r e)) (fun k => ids (ix2 r k)) k := by
  pointwise [sel]
  simp only [mask_apply]
  rfl

/-- The softmax at a slot. -/
theorem softmax_apply (p : FVec Ideal S2048x8 .f32) (r : Fin 2048) (k : Fin 8) :
    softmax p (ix2 r k) = gate (fun k => p (ix2 r k)) k := by
  pointwise [softmax]
  simp only [negInf, max_bot_left]
  rfl

/-- The softmax's gradient at a slot. -/
theorem slots_apply (g : FVec Ideal S2048x8 .f32) (dg : Vec Ideal S2048x8 .bf16) (r : Fin 2048) (k : Fin 8) :
    slots g (gates dg) (ix2 r k) = g (ix2 r k) * (dg (ix2 r k) - ∑ j : Fin 8, g (ix2 r j) * dg (ix2 r j)) := by
  pointwise [slots, gates]

/-- The slots' part of the gradient. -/
theorem spread_apply (h : IVec S2048x8x256 1) (d : FVec Ideal S2048x8x1 .f32) (r : Fin 2048) (e : Fin 256) :
    spread h d (ix2 r e) = ∑ k : Fin 8, Scalar.select (h (ix3 r k e)) (d (ix3 r k 0)) 0 := by
  pointwise [spread]

/-- The maximum of a token's logits. -/
theorem top_apply (lg : FVec Ideal S2048x256 .f32) (r : Fin 2048) : top lg (ix1 r) = peak fun e => lg (ix2 r e) := by
  pointwise [top]
  simp only [negInf, max_bot_left]
  rfl

/-- Choosing by the negated test of infinity is choosing zero at an infinite maximum. -/
theorem fin_apply (lg : FVec Ideal S2048x256 .f32) (r : Fin 2048) : fin lg (ix1 r) = shift fun e => lg (ix2 r e) := by
  pointwise [fin]
  rw [top_apply]
  unfold shift
  change Scalar.select (IntOp.xori (BitVec.ofBool (decide (_ = ⊤ ∨ _ = ⊥))) 1#1) _ _ = _
  split
  · rw [decide_eq_true ‹_›]; rfl
  · rw [decide_eq_false ‹_›]; rfl

/-- A token's log-sum-exp. -/
theorem lse_apply (lg : FVec Ideal S2048x256 .f32) (r : Fin 2048) : lse lg (ix1 r) = refLse fun e => lg (ix2 r e) := by
  pointwise [lse]
  simp only [fin_apply]
  rfl

/-- The log-sum-exp part of the gradient. -/
theorem zPart_apply (lg : FVec Ideal S2048x256 .f32) (l : FVec Ideal S2048 .f32) (r : Fin 2048) (e : Fin 256) :
    zPart lg l (ix2 r e)
      = Ideal.ofBits .f32 0x3CA3D70A#32 * l (ix1 r) * Ideal.exp (lg (ix2 r e) - l (ix1 r)) := by
  pointwise [zPart]

variable (x : Vec Ideal S2048x7168 .fp8e4m3) (s : Vec Ideal S2048x1 .f32) (w : Vec Ideal S7168x256 .bf16)
  (ids : Vec Ideal S2048x8 .i32) (dg : Vec Ideal S2048x8 .bf16)

/-- The slots' gradients. -/
theorem dsel_apply (r : Fin 2048) (k : Fin 8) :
    k0_pay5 x s w ids dg (ix3 r k 0)
      = slotGrad (fun e => k0_pay3 x s w (ix2 r e)) (fun k => ids (ix2 r k)) (fun k => dg (ix2 r k)) k := by
  have h : k0_pay5 x s w ids dg = shapeCast S2048x8x1 (slots (softmax (sel (k0_pay4 ids) (k0_pay3 x s w))) (gates dg))
      shapeCasts_S2048x8_S2048x8x1 := rfl
  rw [h]
  pointwise
  rw [slots_apply]
  simp only [softmax_apply, sel_apply]
  rfl

/-- The reference's gradient of the logits, at token `r` and expert `e`. -/
def row (r : Fin 2048) (e : Fin 256) : EReal :=
  refRow (Ideal.ofBits .f32 0x3CA3D70A#32)
    (fun e => (∑ d : Fin 7168, x (ix2 r d) * w (ix2 d e)) * s (ix2 r 0)) (fun k => ids (ix2 r k)) (fun k => dg (ix2 r k)) e

/-- The gradient of the logits. -/
theorem dl_apply (r : Fin 2048) (e : Fin 256) :
    k0_pay6 (k0_pay3 x s w) (k0_pay4 ids) (k0_pay5 x s w ids dg) (ix2 r e) = row x s w ids dg r e := by
  have h : k0_pay6 (k0_pay3 x s w) (k0_pay4 ids) (k0_pay5 x s w ids dg)
      = addf (spread (k0_pay4 ids) (k0_pay5 x s w ids dg)) (zPart (k0_pay3 x s w) (lse (k0_pay3 x s w))) := rfl
  rw [h]
  pointwise
  rw [spread_apply, zPart_apply, lse_apply]
  simp only [dsel_apply, mask_apply, lg_apply]
  rfl

/-- The gradient of the activations: a sum over the experts. -/
theorem dx_apply (r : Fin 2048) (d : Fin 7168) :
    k0_pay8 w (k0_pay3 x s w) (k0_pay4 ids) (k0_pay5 x s w ids dg) (ix2 r d)
      = ∑ e : Fin 256, row x s w ids dg r e * w (ix2 d e) := by
  pointwise [k0_pay8, k0_pay7]
  simp only [dl_apply]

/-- The gradient of the weights: a sum over the tokens. -/
theorem dw_apply (d : Fin 7168) (e : Fin 256) :
    k0_pay9 (k0_pay1 s) (k0_pay2 x) (k0_pay3 x s w) (k0_pay4 ids) (k0_pay5 x s w ids dg) (ix2 d e)
      = ∑ r : Fin 2048, x (ix2 r d) * s (ix2 r 0) * row x s w ids dg r e := by
  pointwise [k0_pay9, k0_pay7, k0_pay1, k0_pay2]
  simp only [dl_apply]

end Cert.ReferenceIdeal.Row

end
-- ==== Proof.RefArrays.lean ====
/-
  What the reference's three result arrays hold after the run, as functions of the argument arrays.

  The reference runs as one grid point over whole arrays.  `rblk0` to `rblk4` state that what it reads is the arguments,
  tokens named by sequence and position; `final7`, `final5` and `final6` state that the results are `Spec.dlR`, `Spec.dxR`
  and `Spec.dwR` of the arguments.
-/
module

public import proofs.«01_k».proof.Proof.RefRow
public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.ReferenceIdeal.Arrays

open Idealize Idealize.ShloMosaic Idealize.ShloMosaic.TcCoe Idealize.SL.Sem
open Cert Cert.ReferenceIdeal Cert.ReferenceIdeal.Gen Cert.Route
open scoped BigOperators

variable (m : (ℓ : Loc nD τ sig) → Buf (Elt Ideal) ℓ) (c : Dev nD)

/-- The activations' codes. -/
abbrev X : S16x128x7168.Idx → EReal := m ((c : Thread nD τ).loc main_arg0)
/-- The tokens' scales. -/
abbrev S : S16x128.Idx → EReal := m ((c : Thread nD τ).loc main_arg1)
/-- The router's weights. -/
abbrev W : S7168x256.Idx → EReal := m ((c : Thread nD τ).loc main_arg2)
/-- The chosen experts. -/
abbrev I : S16x128x8.Idx → BitVec 32 := m ((c : Thread nD τ).loc main_arg3)
/-- The gates' gradients. -/
abbrev G : S16x128x8.Idx → EReal := m ((c : Thread nD τ).loc main_arg4)

/-- The index maps of the windows at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] := by decide +kernel

/-- A token's codes. -/
theorem rblk0 (t : Fin cfg0.N) (T : Fin 2048) (d : Fin 7168) :
    iblk m c 0 t (ix2 T d) = X m c (ix3 (Spec.seq T) (Spec.pos T) d) := by
  blk_ext! [iblk, V, idx t]

/-- A token's scale. -/
theorem rblk1 (t : Fin cfg0.N) (T : Fin 2048) : iblk m c 1 t (ix2 T 0) = S m c (ix2 (Spec.seq T) (Spec.pos T)) := by
  blk_ext! [iblk, V, idx t]

/-- The weights. -/
theorem rblk2 (t : Fin cfg0.N) (d : Fin 7168) (e : Fin 256) : iblk m c 2 t (ix2 d e) = W m c (ix2 d e) := by
  blk_ext! [iblk, V, idx t]

/-- A token's chosen experts. -/
theorem rblk3 (t : Fin cfg0.N) (T : Fin 2048) (k : Fin 8) :
    iblk m c 3 t (ix2 T k) = I m c (ix3 (Spec.seq T) (Spec.pos T) k) := by
  blk_ext! [iblk, V, idx t]

/-- A token's gates' gradients. -/
theorem rblk4 (t : Fin cfg0.N) (T : Fin 2048) (k : Fin 8) :
    iblk m c 4 t (ix2 T k) = G m c (ix3 (Spec.seq T) (Spec.pos T) k) := by
  blk_ext! [iblk, V, idx t]

/-- The gradient of a token's logits, of the arguments. -/
theorem row_eq (t : Fin cfg0.N) (T : Fin 2048) (e : Fin 256) :
    Row.row (iblk m c 0 t) (iblk m c 1 t) (iblk m c 2 t) (iblk m c 3 t) (iblk m c 4 t) T e
      = Spec.dlR (X m c) (S m c) (W m c) (I m c) (G m c) T e := by
  unfold Row.row
  simp only [rblk0, rblk1, rblk2, rblk3, rblk4]
  rfl

/-- What the body stores as the gradient of the logits. -/
theorem out7 (t : Fin cfg0.N) (T : Fin 2048) (e : Fin 256) :
    (dats m 0 c).after 7 t (ix2 T e) = Spec.dlR (X m c) (S m c) (W m c) (I m c) (G m c) T e := by
  have h : (dats m 0 c).after 7 t = k0_pay6 (k0_pay3 (iblk m c 0 t) (iblk m c 1 t) (iblk m c 2 t)) (k0_pay4 (iblk m c 3 t))
      (k0_pay5 (iblk m c 0 t) (iblk m c 1 t) (iblk m c 2 t) (iblk m c 3 t) (iblk m c 4 t)) := by
    rw [after0_7]
    unfold_out out0_7
    frame_out
  rw [h, ← row_eq m c t]
  exact Row.dl_apply _ _ _ _ _ _ _

/-- What the body stores as the gradient of the activations. -/
theorem out5 (t : Fin cfg0.N) (T : Fin 2048) (d : Fin 7168) :
    (dats m 0 c).after 5 t (ix2 T d) = Spec.dxR (X m c) (S m c) (W m c) (I m c) (G m c) T d := by
  have h : (dats m 0 c).after 5 t = k0_pay8 (iblk m c 2 t) (k0_pay3 (iblk m c 0 t) (iblk m c 1 t) (iblk m c 2 t))
      (k0_pay4 (iblk m c 3 t))
      (k0_pay5 (iblk m c 0 t) (iblk m c 1 t) (iblk m c 2 t) (iblk m c 3 t) (iblk m c 4 t)) := by
    rw [after0_5]
    unfold_out out0_5
    frame_out
  rw [h]
  refine (Row.dx_apply _ _ _ _ _ _ _).trans ?_
  exact Finset.sum_congr rfl fun e _ => by rw [row_eq, rblk2]

/-- What the body stores as the gradient of the weights. -/
theorem out6 (t : Fin cfg0.N) (d : Fin 7168) (e : Fin 256) :
    (dats m 0 c).after 6 t (ix2 d e) = Spec.dwR (X m c) (S m c) (W m c) (I m c) (G m c) d e := by
  have h : (dats m 0 c).after 6 t = k0_pay9 (k0_pay1 (iblk m c 1 t)) (k0_pay2 (iblk m c 0 t))
      (k0_pay3 (iblk m c 0 t) (iblk m c 1 t) (iblk m c 2 t)) (k0_pay4 (iblk m c 3 t))
      (k0_pay5 (iblk m c 0 t) (iblk m c 1 t) (iblk m c 2 t) (iblk m c 3 t) (iblk m c 4 t)) := by
    rw [after0_6]
    unfold_out out0_6
    frame_out
  rw [h]
  refine (Row.dw_apply _ _ _ _ _ _ _).trans ?_
  exact Finset.sum_congr rfl fun T _ => by rw [row_eq, rblk0, rblk1]

/-- The gradient of the logits after the run. -/
theorem final7 : (dats m 0 c).arrAt 7 cfg0.N
    = fun i : S2048x256.Idx => Spec.dlR (X m c) (S m c) (W m c) (I m c) (G m c) (i 0) (i 1) := by
  refine (dats m 0 c).arrAt_eq_of_after_last 7 t0_0 (by decide +kernel) _ fun j => ?_
  idx_vars j
  blk_simp
  exact out7 m c _ _ _

/-- The gradient of the activations after the run. -/
theorem final5 : (dats m 0 c).arrAt 5 cfg0.N
    = fun i : S2048x7168.Idx => Spec.dxR (X m c) (S m c) (W m c) (I m c) (G m c) (i 0) (i 1) := by
  refine (dats m 0 c).arrAt_eq_of_after_last 5 t0_0 (by decide +kernel) _ fun j => ?_
  idx_vars j
  blk_simp
  exact out5 m c _ _ _

/-- The gradient of the weights after the run. -/
theorem final6 : (dats m 0 c).arrAt 6 cfg0.N
    = fun i : S7168x256.Idx => Spec.dwR (X m c) (S m c) (W m c) (I m c) (G m c) (i 0) (i 1) := by
  refine (dats m 0 c).arrAt_eq_of_after_last 6 t0_0 (by decide +kernel) _ fun j => ?_
  idx_vars j
  blk_simp
  exact out6 m c _ _ _

end Cert.ReferenceIdeal.Arrays

end
-- ==== Proof.Equal.lean ====
/-
  From memories that agree on the arguments, the kernel's and the reference's result arrays are equal: `dx`, `dw` and `dl`.
-/
module

public import proofs.«01_k».proof.Proof.KernelArrays
public import proofs.«01_k».proof.Proof.RefArrays

@[expose] public section

set_option maxRecDepth 16384

noncomputable section

namespace Cert.Equal

open Idealize Idealize.ShloMosaic Idealize.ShloMosaic.TcCoe Idealize.SL.Sem
open Cert

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on a device. -/
abbrev Same : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)

/-- A function of the five arguments has the same value at both memories' arguments. -/
theorem of_same {α β : Type} (h : Same m m' c)
    (f : ((⟨3, ![16, 128, 7168]⟩ : Shape).Idx → EReal) → ((⟨2, ![16, 128]⟩ : Shape).Idx → EReal)
      → ((⟨2, ![7168, 256]⟩ : Shape).Idx → EReal) → ((⟨3, ![16, 128, 8]⟩ : Shape).Idx → BitVec 32)
      → ((⟨3, ![16, 128, 8]⟩ : Shape).Idx → EReal) → α → β → EReal) (a : α) (b : β) :
    f (ReferenceIdeal.Arrays.X m' c) (ReferenceIdeal.Arrays.S m' c) (ReferenceIdeal.Arrays.W m' c) (ReferenceIdeal.Arrays.I m' c) (ReferenceIdeal.Arrays.G m' c) a b
      = f (KernelIdeal.Arrays.X m c) (KernelIdeal.Arrays.S m c) (KernelIdeal.Arrays.W m c) (KernelIdeal.Arrays.I m c) (KernelIdeal.Arrays.G m c) a b := by
  obtain ⟨h0, h1, h2, h3, h4⟩ := h
  exact congrFun (congrFun (congr (congr (congr (congr (congrArg f h0) h1) h2) h3) h4) a) b

/-- The gradients of the activations are equal. -/
theorem dx (h : Same m m' c) : (Cert.ReferenceIdeal.Gen.dats m' 0 c).arrAt 5 Cert.ReferenceIdeal.cfg0.N
    = (Cert.KernelIdeal.Gen.dats m 0 c).arrAt 5 Cert.KernelIdeal.cfg0.N := by
  rw [Cert.ReferenceIdeal.Arrays.final5, Cert.KernelIdeal.Arrays.final5]
  exact funext fun i => (of_same m m' c h Spec.dxR _ _).trans (Spec.dxK_eq _ _ _ _ _ _ _).symm

/-- The gradients of the weights are equal. -/
theorem dw (h : Same m m' c) : (Cert.ReferenceIdeal.Gen.dats m' 0 c).arrAt 6 Cert.ReferenceIdeal.cfg0.N
    = (Cert.KernelIdeal.Gen.dats m 0 c).arrAt 6 Cert.KernelIdeal.cfg0.N := by
  rw [Cert.ReferenceIdeal.Arrays.final6, Cert.KernelIdeal.Arrays.final6]
  exact funext fun i => (of_same m m' c h Spec.dwR _ _).trans (Spec.dwK_eq _ _ _ _ _ _ _).symm

/-- The gradients of the logits are equal. -/
theorem dl (h : Same m m' c) : (Cert.ReferenceIdeal.Gen.dats m' 0 c).arrAt 7 Cert.ReferenceIdeal.cfg0.N
    = (Cert.KernelIdeal.Gen.dats m 0 c).arrAt 7 Cert.KernelIdeal.cfg0.N := by
  rw [Cert.ReferenceIdeal.Arrays.final7, Cert.KernelIdeal.Arrays.final7]
  exact funext fun i => (of_same m m' c h Spec.dlR _ _).trans (Spec.dlK_eq _ _ _ _ _ _ _).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The programs run to the end without a fault, and from equal arguments the two idealized ones end with equal results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  fun m g m' g' _ h => ⟨_, _, _, Cert.KernelIdeal.Value.run_blocks m g, by
    have hr := Cert.ReferenceIdeal.Value.run_blocks m' g'
    simp only [Equal.dx m m' _ (h _), Equal.dw m m' _ (h _), Equal.dl m m' _ (h _)] at hr
    exact hr⟩⟩

end Cert.Proof

end
